-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v88)) (v3 : (c : Dev Cert.KernelIdeal.nD) → Buf (Elt Ideal) ((c.tc : Thread Cert.KernelIdeal.nD Cert.KernelIdeal.τ).loc Cert.KernelIdeal.main_v73)) (v4 : (c : Dev Cert.KernelIdeal.nD) → Buf (Elt Ideal) ((c.tc : Thread Cert.KernelIdeal.nD Cert.KernelIdeal.τ).loc Cert.KernelIdeal.main_v66)) (v5 : (c : Dev Cert.KernelIdeal.nD) → Buf (Elt Ideal) ((c.tc : Thread Cert.KernelIdeal.nD Cert.KernelIdeal.τ).loc Cert.KernelIdeal.main_v95)) (v6 : (c : Dev Cert.KernelIdeal.nD) → Buf (Elt Ideal) ((c.tc : Thread Cert.KernelIdeal.nD Cert.KernelIdeal.τ).loc Cert.KernelIdeal.main_v81)) (v7 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v88) = v2 c
          ∧ r.2.mem ((c.tc : Thread Cert.KernelIdeal.nD Cert.KernelIdeal.τ).loc Cert.KernelIdeal.main_v73) = v3 c
          ∧ r.2.mem ((c.tc : Thread Cert.KernelIdeal.nD Cert.KernelIdeal.τ).loc Cert.KernelIdeal.main_v66) = v4 c
          ∧ r.2.mem ((c.tc : Thread Cert.KernelIdeal.nD Cert.KernelIdeal.τ).loc Cert.KernelIdeal.main_v95) = v5 c
          ∧ r.2.mem ((c.tc : Thread Cert.KernelIdeal.nD Cert.KernelIdeal.τ).loc Cert.KernelIdeal.main_v81) = v6 c
          ∧ r.2.mem ((c.tc : Thread Cert.KernelIdeal.nD Cert.KernelIdeal.τ).loc Cert.KernelIdeal.main_v48) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_v106) = v5 c
          ∧ r.2.mem ((c.tc : Thread Cert.ReferenceIdeal.nD Cert.ReferenceIdeal.τ).loc Cert.ReferenceIdeal.main_v92) = v6 c
          ∧ r.2.mem ((c.tc : Thread Cert.ReferenceIdeal.nD Cert.ReferenceIdeal.τ).loc Cert.ReferenceIdeal.main_v59) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000x16 : Shape := ⟨2, ![320000, 16]⟩
abbrev S16x128 : Shape := ⟨2, ![16, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S2000x16 : Shape := ⟨2, ![2000, 16]⟩
abbrev S2000x128 : Shape := ⟨2, ![2000, 128]⟩
abbrev S1x128 : Shape := ⟨2, ![1, 128]⟩
abbrev S1x1 : Shape := ⟨2, ![1, 1]⟩
abbrev S8000x128 : Shape := ⟨2, ![8000, 128]⟩
abbrev S8000x1 : Shape := ⟨2, ![8000, 1]⟩
abbrev S8000x256 : Shape := ⟨2, ![8000, 256]⟩
abbrev S160000 : Shape := ⟨1, ![160000]⟩
abbrev S160000x1 : Shape := ⟨2, ![160000, 1]⟩
abbrev S2x160000 : Shape := ⟨2, ![2, 160000]⟩
abbrev S160000x16 : Shape := ⟨2, ![160000, 16]⟩

abbrev nBuf : Space → Nat
  | .hbm => 131
  | .vmem => 34
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S16x128, .f32⟩
  | 4 => ⟨S128x128, .f32⟩
  | 5 => ⟨S128, .f32⟩
  | 6 => ⟨S16x128, .f32⟩
  | 7 => ⟨S128x128, .f32⟩
  | 8 => ⟨S128, .f32⟩
  | 9 => ⟨S256x1, .f32⟩
  | 10 => ⟨S1, .f32⟩
  | 11 => ⟨S1x320000, .i32⟩
  | 12 => ⟨S320000, .i32⟩
  | 13 => ⟨S1x320000, .i32⟩
  | 14 => ⟨S320000, .i32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000x128, .f32⟩
  | 24 => ⟨S320000x128, .f32⟩
  | 25 => ⟨S320000x128, .f32⟩
  | 26 => ⟨S_, .f32⟩
  | 27 => ⟨S10000x128, .f32⟩
  | 28 => ⟨S320000x1, .i32⟩
  | 29 => ⟨S10000x128, .f32⟩
  | 30 => ⟨S1x128, .f32⟩
  | 31 => ⟨S10000x128, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x128, .f32⟩
  | 41 => ⟨S320000x128, .f32⟩
  | 42 => ⟨S320000x128, .f32⟩
  | 43 => ⟨S_, .f32⟩
  | 44 => ⟨S10000x128, .f32⟩
  | 45 => ⟨S320000x1, .i32⟩
  | 46 => ⟨S10000x128, .f32⟩
  | 47 => ⟨S1x128, .f32⟩
  | 48 => ⟨S10000x128, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x128, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x128, .f32⟩
  | 67 => ⟨S1x1, .f32⟩
  | 68 => ⟨S320000x1, .f32⟩
  | 69 => ⟨S320000, .f32⟩
  | 70 => ⟨S320000, .f32⟩
  | 71 => ⟨S320000, .i32⟩
  | 72 => ⟨S320000, .f32⟩
  | 73 => ⟨S320000, .i32⟩
  | 74 => ⟨S160000, .i32⟩
  | 75 => ⟨S160000, .i32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S2x160000, .i32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S2x160000, .i32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S160000, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000, .f32⟩
  | 112 => ⟨S160000, .f32⟩
  | 113 => ⟨S_, .i32⟩
  | 114 => ⟨S160000, .i32⟩
  | 115 => ⟨S160000, .i1⟩
  | 116 => ⟨S_, .i32⟩
  | 117 => ⟨S160000, .i32⟩
  | 118 => ⟨S160000, .i32⟩
  | 119 => ⟨S160000, .i32⟩
  | 120 => ⟨S160000x1, .i32⟩
  | 121 => ⟨S160000x16, .f32⟩
  | 122 => ⟨S_, .i32⟩
  | 123 => ⟨S160000, .i32⟩
  | 124 => ⟨S160000, .i1⟩
  | 125 => ⟨S_, .i32⟩
  | 126 => ⟨S160000, .i32⟩
  | 127 => ⟨S160000, .i32⟩
  | _ => ⟨S10000x128, .f32⟩

abbrev hbmTy0_1 (i : Nat) : BufTy := match i % 128 with
  | 0 => ⟨S160000, .i32⟩
  | 1 => ⟨S160000x1, .i32⟩
  | 2 => ⟨S160000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S16x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S2000x16, .f32⟩
  | .local _ .vmem, ⟨14, _⟩ => ⟨S2000x16, .f32⟩
  | .local _ .vmem, ⟨15, _⟩ => ⟨S16x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S8000x128, .f32⟩
  | .local _ .vmem, ⟨30, _⟩ => ⟨S1x1, .f32⟩
  | .local _ .vmem, ⟨31, _⟩ => ⟨S256x1, .f32⟩
  | .local _ .vmem, ⟨32, _⟩ => ⟨S8000x1, .f32⟩
  | .local _ .vmem, ⟨33, _⟩ => ⟨S8000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_v0 : Ref sig .tc := ⟨.hbm, 71, rfl⟩
abbrev main_call0_v1_0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_12 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S16x128 : Shape := ⟨2, ![16, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S320000x256 : Shape := ⟨2, ![320000, 256]⟩
abbrev S1x1 : Shape := ⟨2, ![1, 1]⟩
abbrev S160000 : Shape := ⟨1, ![160000]⟩
abbrev S160000x1 : Shape := ⟨2, ![160000, 1]⟩
abbrev S2x160000 : Shape := ⟨2, ![2, 160000]⟩
abbrev S160000x16 : Shape := ⟨2, ![160000, 16]⟩

abbrev nBuf : Space → Nat
  | .hbm => 146
  | .vmem => 0
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S16x128, .f32⟩
  | 4 => ⟨S128x128, .f32⟩
  | 5 => ⟨S128, .f32⟩
  | 6 => ⟨S16x128, .f32⟩
  | 7 => ⟨S128x128, .f32⟩
  | 8 => ⟨S128, .f32⟩
  | 9 => ⟨S256x1, .f32⟩
  | 10 => ⟨S1, .f32⟩
  | 11 => ⟨S1x320000, .i32⟩
  | 12 => ⟨S320000, .i32⟩
  | 13 => ⟨S1x320000, .i32⟩
  | 14 => ⟨S320000, .i32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000x128, .f32⟩
  | 24 => ⟨S320000x128, .f32⟩
  | 25 => ⟨S320000x128, .f32⟩
  | 26 => ⟨S_, .f32⟩
  | 27 => ⟨S10000x128, .f32⟩
  | 28 => ⟨S320000x1, .i32⟩
  | 29 => ⟨S10000x128, .f32⟩
  | 30 => ⟨S10000x128, .f32⟩
  | 31 => ⟨S10000x128, .f32⟩
  | 32 => ⟨S1x128, .f32⟩
  | 33 => ⟨S10000x128, .f32⟩
  | 34 => ⟨S10000x128, .f32⟩
  | 35 => ⟨S_, .f32⟩
  | 36 => ⟨S10000x128, .f32⟩
  | 37 => ⟨S10000x128, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000x128, .f32⟩
  | 47 => ⟨S320000x128, .f32⟩
  | 48 => ⟨S320000x128, .f32⟩
  | 49 => ⟨S_, .f32⟩
  | 50 => ⟨S10000x128, .f32⟩
  | 51 => ⟨S320000x1, .i32⟩
  | 52 => ⟨S10000x128, .f32⟩
  | 53 => ⟨S10000x128, .f32⟩
  | 54 => ⟨S10000x128, .f32⟩
  | 55 => ⟨S1x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x128, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x128, .f32⟩
  | 79 => ⟨S320000x256, .f32⟩
  | 80 => ⟨S320000x1, .f32⟩
  | 81 => ⟨S1x1, .f32⟩
  | 82 => ⟨S320000x1, .f32⟩
  | 83 => ⟨S320000x1, .f32⟩
  | 84 => ⟨S320000, .f32⟩
  | 85 => ⟨S320000, .f32⟩
  | 86 => ⟨S320000, .i32⟩
  | 87 => ⟨S320000, .f32⟩
  | 88 => ⟨S320000, .i32⟩
  | 89 => ⟨S160000, .i32⟩
  | 90 => ⟨S160000, .i32⟩
  | 91 => ⟨S_, .i32⟩
  | 92 => ⟨S160000, .i32⟩
  | 93 => ⟨S160000, .i1⟩
  | 94 => ⟨S_, .i32⟩
  | 95 => ⟨S160000, .i32⟩
  | 96 => ⟨S160000, .i32⟩
  | 97 => ⟨S160000, .i32⟩
  | 98 => ⟨S160000x1, .i32⟩
  | 99 => ⟨S2x160000, .i32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S2x160000, .i32⟩
  | 109 => ⟨S_, .i32⟩
  | 110 => ⟨S160000, .i32⟩
  | 111 => ⟨S160000, .i1⟩
  | 112 => ⟨S_, .i32⟩
  | 113 => ⟨S160000, .i32⟩
  | 114 => ⟨S160000, .i32⟩
  | 115 => ⟨S160000, .i32⟩
  | 116 => ⟨S160000x1, .i32⟩
  | 117 => ⟨S160000, .f32⟩
  | 118 => ⟨S_, .i32⟩
  | 119 => ⟨S160000, .i32⟩
  | 120 => ⟨S160000, .i1⟩
  | 121 => ⟨S_, .i32⟩
  | 122 => ⟨S160000, .i32⟩
  | 123 => ⟨S160000, .i32⟩
  | 124 => ⟨S160000, .i32⟩
  | 125 => ⟨S160000x1, .i32⟩
  | 126 => ⟨S160000, .f32⟩
  | 127 => ⟨S160000, .f32⟩
  | _ => ⟨S10000x128, .f32⟩

abbrev hbmTy0_1 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S160000x16, .f32⟩
  | 9 => ⟨S_, .i32⟩
  | 10 => ⟨S160000, .i32⟩
  | 11 => ⟨S160000, .i1⟩
  | 12 => ⟨S_, .i32⟩
  | 13 => ⟨S160000, .i32⟩
  | 14 => ⟨S160000, .i32⟩
  | 15 => ⟨S160000, .i32⟩
  | 16 => ⟨S160000x1, .i32⟩
  | 17 => ⟨S160000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_6 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_v0 : Ref sig .tc := ⟨.hbm, 86, rfl⟩
abbrev main_call2_v1_0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_8 : Ref sig .tc := ⟨.hbm, 91, rfl⟩
abbrev main_v64 : Ref sig .tc := ⟨.hbm, 92, rfl⟩
abbrev main_v65 : Ref sig .tc := ⟨.hbm, 93, rfl⟩
abbrev main_c_9 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_10 : Ref sig .tc := ⟨.hbm, 100, rfl⟩
abbrev main_v71 : Ref sig .tc := ⟨.hbm, 101, rfl⟩
abbrev main_v72 : Ref sig .tc := ⟨.hbm, 102, rfl⟩
abbrev main_c_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_12 : Ref sig .tc := ⟨.hbm, 109, rfl⟩
abbrev main_v78 : Ref sig .tc := ⟨.hbm, 110, rfl⟩
abbrev main_v79 : Ref sig .tc := ⟨.hbm, 111, rfl⟩
abbrev main_c_13 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_14 : Ref sig .tc := ⟨.hbm, 118, rfl⟩
abbrev main_v85 : Ref sig .tc := ⟨.hbm, 119, rfl⟩
abbrev main_v86 : Ref sig .tc := ⟨.hbm, 120, rfl⟩
abbrev main_c_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_16 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_18 : Ref sig .tc := ⟨.hbm, 137, rfl⟩
abbrev main_v100 : Ref sig .tc := ⟨.hbm, 138, rfl⟩
abbrev main_v101 : Ref sig .tc := ⟨.hbm, 139, rfl⟩
abbrev main_c_19 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]
-- ==== Proof.Stages.lean ====
/-
  The computation of both programs as a few named functions: the two ends of the edge list, one layer of message
  passing, the score of an edge, the order of the scores, and the rows picked by a list of positions. They are
  written with the reference's own operations, so that each result of the reference is one expression in them.
-/
module

public import proofs.«01_k».proof.Proof.Gen.ReferenceIdeal

@[expose] public section

noncomputable section

namespace Cert.ReferenceIdeal.Stage

open Cert.ReferenceIdeal Cert.ReferenceIdeal.Gen Idealize.ShloMosaic

variable {F : FTy → Type} [FloatOps F]

/-- The first row of the edge list: each edge's source node. -/
def source (e : IVec S2x320000 32) : IVec S320000 32 :=
  shapeCast S320000 (extractStridedSlice S1x320000 ![0, 0] e slices_S2x320000_S1x320000_0_0) shapeCasts_S1x320000_S320000

/-- The second row of the edge list: each edge's target node. -/
def target (e : IVec S2x320000 32) : IVec S320000 32 :=
  shapeCast S320000 (extractStridedSlice S1x320000 ![1, 0] e slices_S2x320000_S1x320000_1_0) shapeCasts_S1x320000_S320000

/-- Node numbers as a column, a negative one counted from the end of the 10000 nodes. -/
def nodeCol (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- The rows of the node features `h` at the nodes `i`, one row per edge. -/
def nodeRows (h : FVec F S10000x128 .f32) (i : IVec S320000 32) : FVec F S320000x128 .f32 :=
  Host.gather gather_S10000x128_S320000x1_S320000x128_1_0_n_n_0_1_1128 h (nodeCol i)

/-- The edges' part of the messages: the edge features times `We`. -/
def edgePart (e : FVec F S320000x16 .f32) (We : FVec F S16x128 .f32) : FVec F S320000x128 .f32 :=
  Host.dotGeneral dot_S320000x16_S16x128_S320000x128_1_0_0_1_n_n none e We

/-- The messages `s + p` summed into their target nodes `d`. -/
def collect (d : IVec S320000 32) (s p : FVec F S320000x128 .f32) : FVec F S10000x128 .f32 :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 d) (addf s p)

/-- The node update: `max (((a + x) · W) + b) 0`, the bias `b` added to every row. -/
def update (a x : FVec F S10000x128 .f32) (W : FVec F S128x128 .f32) (b : FVec F S128 .f32) : FVec F S10000x128 .f32 :=
  maximumf
    (addf (Host.dotGeneral dot_S10000x128_S128x128_S10000x128_1_0_0_1_n_n none (addf a x) W)
      (broadcastInDim S10000x128 ![0, 1] bcast_S1x128_S10000x128_0_1 (broadcastInDim S1x128 ![1] bcast_S128_S1x128_1 b)))
    (broadcastInDim S10000x128 ![] bcast_S_S10000x128 (constant S_ .f32 0x00000000#32))

/-- One layer of message passing over the edge list `ei` with edge features `e`. -/
def layer (x : FVec F S10000x128 .f32) (ei : IVec S2x320000 32) (e : FVec F S320000x16 .f32) (We : FVec F S16x128 .f32)
    (W : FVec F S128x128 .f32) (b : FVec F S128 .f32) : FVec F S10000x128 .f32 :=
  update (collect (target ei) (nodeRows x (source ei)) (edgePart e We)) x W b

/-- The score column: both ends' rows side by side times `w`, plus the one number `b`. -/
def scoreCol (p q : FVec F S320000x128 .f32) (w : FVec F S256x1 .f32) (b : FVec F S1 .f32) : FVec F S320000x1 .f32 :=
  addf (Host.dotGeneral dot_S320000x256_S256x1_S320000x1_1_0_0_1_n_n none
      (concatenate S320000x256 1 [⟨S320000x128, p⟩, ⟨S320000x128, q⟩] concatenates_S320000x128_S320000x128_S320000x256_d1) w)
    (broadcastInDim S320000x1 ![0, 1] bcast_S1x1_S320000x1_0_1 (broadcastInDim S1x1 ![1] bcast_S1_S1x1_1 b))

/-- The score column as a vector. -/
def flat (s : FVec F S320000x1 .f32) : FVec F S320000 .f32 := shapeCast S320000 s shapeCasts_S320000x1_S320000

/-- Every edge's score from the node features `h`. -/
def score (h : FVec F S10000x128 .f32) (ei : IVec S2x320000 32) (w : FVec F S256x1 .f32) (b : FVec F S1 .f32) :
    FVec F S320000 .f32 :=
  flat (scoreCol (nodeRows h (source ei)) (nodeRows h (target ei)) w b)

/-- The edges in the order of falling score: the stable sort of the negated scores `s`, applied to the positions. -/
def order (s : FVec F S320000 .f32) : IVec S320000 32 :=
  (Host.sort2 S320000 0 comparator_f32_i32_d0 (Host.negf s) (iotaInDim S320000 32 0)).2

/-- The better half of an order of the edges. -/
def front (o : IVec S320000 32) : IVec S160000 32 := extractStridedSlice S160000 ![0] o slices_S320000_S160000_0

/-- The other half of an order of the edges. -/
def back (o : IVec S320000 32) : IVec S160000 32 := extractStridedSlice S160000 ![160000] o slices_S320000_S160000_160000

/-- Edge numbers as a column, a negative one counted from the end of the 320000 edges. -/
def edgeCol (i : IVec S160000 32) : IVec S160000x1 32 :=
  broadcastInDim S160000x1 ![0] bcast_S160000_S160000x1_0
    (select (cmpi .slt i (broadcastInDim S160000 ![] bcast_S_S160000 (constantI S_ 32 0#32)))
      (addi i (broadcastInDim S160000 ![] bcast_S_S160000 (constantI S_ 32 320000#32))) i)

/-- The ends of the edges `i`. -/
def pickEnds (ei : IVec S2x320000 32) (i : IVec S160000 32) : IVec S2x160000 32 :=
  Host.gather gather_S2x320000_S160000x1_S2x160000_0_1_n_n_1_1_21 ei (edgeCol i)

/-- The scores of the edges `i`. -/
def pickScores (s : FVec F S320000 .f32) (i : IVec S160000 32) : FVec F S160000 .f32 :=
  Host.gather gather_S320000_S160000x1_S160000_n_0_n_n_0_1_1 s (edgeCol i)

/-- The features of the edges `i`. -/
def pickFeatures (e : FVec F S320000x16 .f32) (i : IVec S160000 32) : FVec F S160000x16 .f32 :=
  Host.gather gather_S320000x16_S160000x1_S160000x16_1_0_n_n_0_1_116 e (edgeCol i)

end Cert.ReferenceIdeal.Stage

end
-- ==== Proof.RefRun.lean ====
/-
  What the reference leaves in its result arrays, in the functions of `Stages.lean`: each composed term of its run is
  unfolded once and met by the named function.
-/
module

public import proofs.«01_k».proof.Proof.Stages
public import proofs.«01_k».proof.Proof.Gen.ReferenceIdeal.Run

@[expose] public section

set_option maxRecDepth 16384

noncomputable section

namespace Cert.ReferenceIdeal.Named

open Cert.ReferenceIdeal Cert.ReferenceIdeal.Gen Cert.ReferenceIdeal.Stage Idealize.ShloMosaic Idealize.ShloMosaic.TcCoe

variable {F : FTy → Type} [FloatOps F]
variable (m : (ℓ : Loc nD τ sig) → Buf (Elt F) ℓ) (c : Dev nD)

/-- Argument array `a` at launch. -/
abbrev arg (a : Ref sig .tc) : Buf (Elt F) ((c.tc : Thread nD τ).loc a) := m ((c.tc : Thread nD τ).loc a)

/-- The node features after the first layer. -/
def nodes1 : FVec F S10000x128 .f32 :=
  layer (arg m c main_arg0) (arg m c main_arg1) (arg m c main_arg2) (arg m c main_arg3) (arg m c main_arg4) (arg m c main_arg5)

/-- The node features after the second layer. -/
def nodes2 : FVec F S10000x128 .f32 :=
  layer (nodes1 m c) (arg m c main_arg1) (arg m c main_arg2) (arg m c main_arg6) (arg m c main_arg7) (arg m c main_arg8)

/-- The edges' scores. -/
def scores : FVec F S320000 .f32 := score (nodes2 m c) (arg m c main_arg1) (arg m c main_arg9) (arg m c main_arg10)

/-- Result 1 is the node features after the second layer. -/
theorem out0_eq : Value.res_out0 m c = nodes2 m c := by
  unfold Value.res_out0 Value.res_main_v39; rfl

/-- Result 8 is the scores. -/
theorem out7_eq : Value.res_out7 m c = scores m c := by
  unfold Value.res_out7 Value.res_main_v59; rfl

/-- Result 2 is the ends of the better half of the edges. -/
theorem out1_eq : Value.res_out1 m c = pickEnds (arg m c main_arg1) (front (order (scores m c))) := by
  unfold Value.res_out1 Value.res_main_v70; rfl

/-- Result 3 is the features of the better half. -/
theorem out2_eq : Value.res_out2 m c = pickFeatures (arg m c main_arg2) (front (order (scores m c))) := by
  unfold Value.res_out2 Value.res_main_v99; rfl

/-- Result 4 is the scores of the better half. -/
theorem out3_eq : Value.res_out3 m c = pickScores (scores m c) (front (order (scores m c))) := by
  unfold Value.res_out3 Value.res_main_v84; rfl

/-- Result 5 is the ends of the other half. -/
theorem out4_eq : Value.res_out4 m c = pickEnds (arg m c main_arg1) (back (order (scores m c))) := by
  unfold Value.res_out4 Value.res_main_v77; rfl

/-- Result 6 is the features of the other half. -/
theorem out5_eq : Value.res_out5 m c = pickFeatures (arg m c main_arg2) (back (order (scores m c))) := by
  unfold Value.res_out5 Value.res_main_v106; rfl

/-- Result 7 is the negated scores of the other half. -/
theorem out6_eq : Value.res_out6 m c = Host.negf (pickScores (scores m c) (back (order (scores m c)))) := by
  unfold Value.res_out6 Value.res_main_v92; rfl

end Cert.ReferenceIdeal.Named

end
-- ==== Proof.KernelRun.lean ====
/-
  The kernel program's run: every execution ends with each TensorCore buffer that outlives the launch at the contents
  that the fold through the host operations and the five regions gives it.
-/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution of the kernel's main program ends, and each buffer of a TensorCore that is not scratch then holds
    what the last stretch of host operations leaves (`W13`). -/
theorem run : θ_run defs (onTc (τ := τ) (main (F := F))) ⟨m, fun _ => 0, ρ⟩ fun r => ∀ c : Dev nD,
    ∀ b ∈ Pipeline.ucRefs τ sig, r.2.mem (((c : Thread nD τ)).1, b) = W13 m ρ c b :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

end Cert.KernelIdeal.Whole

end
-- ==== Proof.Blocks.lean ====
/-
  What one block of each kernel computes, over the extended reals: if the block's rows are rows of whole arrays, then
  the block's result is the same rows of the whole-array function of `Stages.lean`.
-/
module

public import proofs.«01_k».proof.Proof.Stages
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Cert.ReferenceIdeal.Stage Idealize.ShloMosaic

/-- The message kernel's block: rows of `edgePart`. -/
theorem msg_rows (E : FVec Ideal S320000x16 .f32) (W : FVec Ideal S16x128 .f32) (e : FVec Ideal S2000x16 .f32)
    (r : Fin 2000 → Fin 320000) (he : ∀ i k, e (ix2 i k) = E (ix2 (r i) k)) (i : Fin 2000) (l : Fin 128) :
    k0_pay1 e W (ix2 i l) = edgePart E W (ix2 (r i) l) := by
  unfold k0_pay1 edgePart
  pointwise [he]

/-- The node update's block: rows of `update`, the bias given as one row. -/
theorem update_rows (A X : FVec Ideal S10000x128 .f32) (W : FVec Ideal S128x128 .f32) (b : FVec Ideal S128 .f32)
    (a x : FVec Ideal S2000x128 .f32) (b' : FVec Ideal S1x128 .f32) (r : Fin 2000 → Fin 10000)
    (ha : ∀ i k, a (ix2 i k) = A (ix2 (r i) k)) (hx : ∀ i k, x (ix2 i k) = X (ix2 (r i) k))
    (hb : ∀ l, b' (ix2 0 l) = b (ix1 l)) (i : Fin 2000) (l : Fin 128) :
    k1_pay1 a x W b' (ix2 i l) = update A X W b (ix2 (r i) l) := by
  unfold k1_pay1 update
  pointwise [ha, hx, hb]

/-- The second layer's node update is the first's, but for a cast of the node features' block to its own shape. -/
theorem update_again (a x : FVec Ideal S2000x128 .f32) (W : FVec Ideal S128x128 .f32) (b : FVec Ideal S1x128 .f32) :
    k3_pay1 (F := Ideal) a x W b = k1_pay1 a x W b := by
  unfold k3_pay1 k1_pay1
  simp only [shapeCast_self]

/-- The score kernel's block: rows of `scoreCol`, the offset given as a one-element matrix. -/
theorem score_rows (P Q : FVec Ideal S320000x128 .f32) (w : FVec Ideal S256x1 .f32) (b : FVec Ideal S1 .f32)
    (p q : FVec Ideal S8000x128 .f32) (b' : FVec Ideal S1x1 .f32) (r : Fin 8000 → Fin 320000)
    (hp : ∀ i k, p (ix2 i k) = P (ix2 (r i) k)) (hq : ∀ i k, q (ix2 i k) = Q (ix2 (r i) k))
    (hb : b' (ix2 0 0) = b (ix1 0)) (i : Fin 8000) (l : Fin 1) :
    k4_pay1 p q w b' (ix2 i l) = scoreCol P Q w b (ix2 (r i) l) := by
  unfold k4_pay1 scoreCol
  pointwise [hp, hq, hb]

end Cert.KernelIdeal.Block

end
-- ==== Proof.Geometry.lean ====
/-
  Reading the pipelines' blocks by rows: the facts about indices that every region's value proof takes.
-/
module

public import Idealize.ShloMosaic.Lib.Pipeline.Value
public import Idealize.ShloMosaic.Lib.Pointwise

@[expose] public section

namespace Cert.KernelIdeal.Geometry

open Idealize.ShloMosaic

/-- The offsets `[0, 0]` are zero on both axes. -/
theorem zero2 : (![0, 0] : Fin 2 → Nat) = fun _ => 0 := funext fun a => by fin_cases a <;> rfl

/-- A matrix read at an index whose two coordinates are `i` and `j`. -/
theorem at_ix2 {A B : ℕ} {α : Type} (f : (⟨2, ![A, B]⟩ : Shape).Idx → α) (p : (⟨2, ![A, B]⟩ : Shape).Idx) (i : Fin A) (j : Fin B)
    (h0 : (p 0 : ℕ) = i) (h1 : (p 1 : ℕ) = j) : f p = f (ix2 i j) := by
  rw [eq_ix2 p]
  congr 1
  rw [show p 0 = i from Fin.ext h0, show p 1 = j from Fin.ext h1]

/-- A matrix read at index `(i, l)` of the block of `n` rows and `w` columns whose block index is `(t, 0)`: its entry in row
    `n t + i` and column `l`. -/
theorem at_block {A B : ℕ} {α : Type} (f : (⟨2, ![A, B]⟩ : Shape).Idx → α) (p : (⟨2, ![A, B]⟩ : Shape).Idx) (r : Fin A) (l : Fin B)
    {x y t n w i : ℕ} (h : x = t ∧ y = 0) (h0 : (p 0 : ℕ) = x * n + 1 * i) (h1 : (p 1 : ℕ) = y * w + 1 * l) (hr : (r : ℕ) = n * t + i) :
    f p = f (ix2 r l) := by
  refine at_ix2 f p r l ?_ ?_
  · rw [h0, hr, h.1, one_mul, Nat.mul_comm]
  · rw [h1, h.2, Nat.zero_mul, one_mul, Nat.zero_add]

/-- A matrix read through the one block that is all of it. -/
theorem at_whole {A B : ℕ} {α : Type} (f : (⟨2, ![A, B]⟩ : Shape).Idx → α) (p j : (⟨2, ![A, B]⟩ : Shape).Idx)
    {x y n w : ℕ} (h : x = 0 ∧ y = 0) (h0 : (p 0 : ℕ) = x * n + 1 * (j 0 : ℕ)) (h1 : (p 1 : ℕ) = y * w + 1 * (j 1 : ℕ)) :
    f p = f j := by
  rw [at_block f p (j 0) (j 1) h h0 h1 (by omega), ← eq_ix2 j]

/-- The bounds that put row `i` and column `l` in the block of `n` rows and `w` columns with block index `(t, 0)`. -/
theorem in_block {x y t n w i l : ℕ} (h : x = t ∧ y = 0) (hi : n * t ≤ i ∧ i < n * t + n) (hl : l < w) :
    (x * n ≤ i ∧ i < x * n + n) ∧ (y * w ≤ l ∧ l < y * w + w) := by
  obtain ⟨rfl, rfl⟩ := h
  rw [Nat.mul_comm x n, Nat.zero_mul]
  omega

/-- A row below `n N` lies in one of `N` blocks of `n` rows. -/
theorem row_block {n N i : ℕ} (hi : i < n * N) : ∃ t : Fin N, n * t.val ≤ i ∧ i < n * t.val + n := by
  have hn : 0 < n := Nat.pos_of_ne_zero (by rintro rfl; omega)
  refine ⟨⟨i / n, Nat.div_lt_of_lt_mul hi⟩, Nat.mul_div_le i n, ?_⟩
  have := Nat.lt_div_mul_add (a := i) hn
  rwa [Nat.mul_comm] at this

/-- Row `i` of block `t`, as a row of the array of `A` rows that `N` blocks of `n` rows fill. -/
def rowOf {A n N : ℕ} (h : n * N = A) (t : Fin N) (i : Fin n) : Fin A :=
  ⟨n * t.val + i.val, by
    have h1 := t.isLt; have h2 := i.isLt
    calc n * t.val + i.val < n * t.val + n := by omega
      _ = n * (t.val + 1) := (Nat.mul_succ _ _).symm
      _ ≤ n * N := Nat.mul_le_mul_left n h1
      _ = A := h⟩

end Cert.KernelIdeal.Geometry
-- ==== Proof.Messages.lean ====
/-
  The first and the third region (the edges' part of a layer's messages): the result array is `edgePart` of the edge
  features and the layer's weights.
-/
module

public import proofs.«01_k».proof.Proof.Blocks
public import proofs.«01_k».proof.Proof.Geometry
public import proofs.«01_k».proof.Proof.Gen.KernelIdeal.Frame

@[expose] public section

set_option maxRecDepth 16384

noncomputable section

namespace Cert.KernelIdeal.Arrays

open Cert.KernelIdeal Cert.KernelIdeal.Gen Cert.KernelIdeal.Geometry Cert.ReferenceIdeal.Stage Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Where the first region's blocks lie: those of 2000 rows in order, the weights' block the whole array. -/
theorem place0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by decide +kernel

/-- The same of the third region. -/
theorem place2 : ∀ t : Fin cfg2.N, (win2_0.index t 0 = t.val ∧ win2_0.index t 1 = 0) ∧ (win2_1.index t 0 = 0 ∧ win2_1.index t 1 = 0)
    ∧ (win2_2.index t 0 = t.val ∧ win2_2.index t 1 = 0) := by decide +kernel

/-- What point `t` of the first region writes back is block `t` of `edgePart` of its operands. -/
theorem flushed0 (t : Fin cfg0.N) : (dat0 V c).flushed 2 t
    = (win0_2.blk t).view.read (Elt Ideal) (edgePart (V c main_arg2) (V c main_arg3) : FVec Ideal S320000x128 .f32) := by
  show (cfg0.win 2).cut (grid0.coords t) ((dat0 V c).after 2 t) = _
  rw [after0_2]
  unfold out0_2
  rw [View.canon_unit_zero zero2, View.ld_unit_zero zero2, View.ld_unit_zero zero2]
  funext j
  have hW : (iblk0 V c 1 t : FVec Ideal S16x128 .f32) = (V c main_arg3 : FVec Ideal S16x128 .f32) :=
    funext fun j => at_whole (V c main_arg3 : FVec Ideal S16x128 .f32) _ j (place0 t).2.1 rfl rfl
  show k0_pay1 (iblk0 V c 0 t) (iblk0 V c 1 t) j = _
  rw [hW, eq_ix2 j]
  refine (Block.msg_rows (V c main_arg2) (V c main_arg3) _ (rowOf (N := cfg0.N) rfl t)
    (fun i k => at_block (V c main_arg2 : FVec Ideal S320000x16 .f32) _ _ k (place0 t).1 rfl rfl rfl) (j 0) (j 1)).trans ?_
  exact (at_block (edgePart (V c main_arg2) (V c main_arg3) : FVec Ideal S320000x128 .f32) _ _ _ (place0 t).2.2 rfl rfl rfl).symm

/-- The first region's result array after its last point. -/
theorem final0 : (dat0 V c).arrAt 2 cfg0.N = (edgePart (V c main_arg2) (V c main_arg3) : FVec Ideal S320000x128 .f32) :=
  (dat0 V c).arrAt_eq_of_cover 2 _ (fun t _ => flushed0 V c t) fun (i : S320000x128.Idx) => by
    obtain ⟨t, ht⟩ := row_block (n := 2000) (N := cfg0.N) (i 0).isLt
    refine ⟨t, flush0_2 t, ?_⟩
    show i ∈ ((View.whole main_v11).slice (win0_2.rect t)).set
    rw [View.set_slice_whole, Rect.mem_set_unit]
    exact Fin.forall_fin_two.mpr (in_block (w := 128) (place0 t).2.2 ht (i 1).isLt)

/-- What point `t` of the third region writes back is block `t` of `edgePart` of its operands: its payload is the first
    region's. -/
theorem flushed2 (t : Fin cfg2.N) : (dat2 V c).flushed 2 t
    = (win2_2.blk t).view.read (Elt Ideal) (edgePart (V c main_arg2) (V c main_arg6) : FVec Ideal S320000x128 .f32) := by
  show (cfg2.win 2).cut (grid2.coords t) ((dat2 V c).after 2 t) = _
  rw [after2_2]
  unfold out2_2
  rw [View.canon_unit_zero zero2, View.ld_unit_zero zero2, View.ld_unit_zero zero2]
  funext j
  have hW : (iblk2 V c 1 t : FVec Ideal S16x128 .f32) = (V c main_arg6 : FVec Ideal S16x128 .f32) :=
    funext fun j => at_whole (V c main_arg6 : FVec Ideal S16x128 .f32) _ j (place2 t).2.1 rfl rfl
  show k0_pay1 (iblk2 V c 0 t) (iblk2 V c 1 t) j = _
  rw [hW, eq_ix2 j]
  refine (Block.msg_rows (V c main_arg2) (V c main_arg6) _ (rowOf (N := cfg2.N) rfl t)
    (fun i k => at_block (V c main_arg2 : FVec Ideal S320000x16 .f32) _ _ k (place2 t).1 rfl rfl rfl) (j 0) (j 1)).trans ?_
  exact (at_block (edgePart (V c main_arg2) (V c main_arg6) : FVec Ideal S320000x128 .f32) _ _ _ (place2 t).2.2 rfl rfl rfl).symm

/-- The third region's result array after its last point. -/
theorem final2 : (dat2 V c).arrAt 2 cfg2.N = (edgePart (V c main_arg2) (V c main_arg6) : FVec Ideal S320000x128 .f32) :=
  (dat2 V c).arrAt_eq_of_cover 2 _ (fun t _ => flushed2 V c t) fun (i : S320000x128.Idx) => by
    obtain ⟨t, ht⟩ := row_block (n := 2000) (N := cfg2.N) (i 0).isLt
    refine ⟨t, flush2_2 t, ?_⟩
    show i ∈ ((View.whole main_v25).slice (win2_2.rect t)).set
    rw [View.set_slice_whole, Rect.mem_set_unit]
    exact Fin.forall_fin_two.mpr (in_block (w := 128) (place2 t).2.2 ht (i 1).isLt)

end Cert.KernelIdeal.Arrays

end
-- ==== Proof.Updates.lean ====
/-
  The second and the fourth region (a layer's node update): the result array is `update` of the collected messages, the
  node features, the weights and the bias, the bias given to the region as one row.
-/
module

public import proofs.«01_k».proof.Proof.Blocks
public import proofs.«01_k».proof.Proof.Geometry
public import proofs.«01_k».proof.Proof.Gen.KernelIdeal.Frame

@[expose] public section

set_option maxRecDepth 16384

noncomputable section

namespace Cert.KernelIdeal.Arrays

open Cert.KernelIdeal Cert.KernelIdeal.Gen Cert.KernelIdeal.Geometry Cert.ReferenceIdeal.Stage Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Where the second region's blocks of rows lie, in order. -/
theorem place1 : ∀ t : Fin cfg1.N, (win1_0.index t 0 = t.val ∧ win1_0.index t 1 = 0) ∧ (win1_1.index t 0 = t.val ∧ win1_1.index t 1 = 0)
    ∧ (win1_4.index t 0 = t.val ∧ win1_4.index t 1 = 0) := by decide +kernel

/-- The second region's weights and bias are read whole at every point. -/
theorem fixed1 : ∀ t : Fin cfg1.N, (win1_2.index t 0 = 0 ∧ win1_2.index t 1 = 0) ∧ (win1_3.index t 0 = 0 ∧ win1_3.index t 1 = 0) := by
  decide +kernel

/-- Where the fourth region's blocks of rows lie, in order. -/
theorem place3 : ∀ t : Fin cfg3.N, (win3_0.index t 0 = t.val ∧ win3_0.index t 1 = 0) ∧ (win3_1.index t 0 = t.val ∧ win3_1.index t 1 = 0)
    ∧ (win3_4.index t 0 = t.val ∧ win3_4.index t 1 = 0) := by decide +kernel

/-- The fourth region's weights and bias are read whole at every point. -/
theorem fixed3 : ∀ t : Fin cfg3.N, (win3_2.index t 0 = 0 ∧ win3_2.index t 1 = 0) ∧ (win3_3.index t 0 = 0 ∧ win3_3.index t 1 = 0) := by
  decide +kernel

/-- `b` is the bias whose one row `b'` is. -/
def IsRow (b' : FVec Ideal S1x128 .f32) (b : FVec Ideal S128 .f32) : Prop := ∀ l : Fin 128, b' (ix2 0 l) = b (ix1 l)

/-- What point `t` of the second region writes back is block `t` of `update` of its operands. -/
theorem flushed1 (b : FVec Ideal S128 .f32) (hb : IsRow (V c main_v16) b) (t : Fin cfg1.N) : (dat1 V c).flushed 4 t
    = (win1_4.blk t).view.read (Elt Ideal) (update (V c main_v15) (V c main_arg0) (V c main_arg4) b : FVec Ideal S10000x128 .f32) := by
  show (cfg1.win 4).cut (grid1.coords t) ((dat1 V c).after 4 t) = _
  rw [after1_4]
  unfold out1_4
  rw [View.canon_unit_zero zero2, View.ld_unit_zero zero2, View.ld_unit_zero zero2, View.ld_unit_zero zero2, View.ld_unit_zero zero2]
  funext j
  have hW : (iblk1 V c 2 t : FVec Ideal S128x128 .f32) = (V c main_arg4 : FVec Ideal S128x128 .f32) :=
    funext fun j => at_whole (V c main_arg4 : FVec Ideal S128x128 .f32) _ j (fixed1 t).1 rfl rfl
  have hB : (iblk1 V c 3 t : FVec Ideal S1x128 .f32) = (V c main_v16 : FVec Ideal S1x128 .f32) :=
    funext fun j => at_whole (V c main_v16 : FVec Ideal S1x128 .f32) _ j (fixed1 t).2 rfl rfl
  show k1_pay1 (iblk1 V c 0 t) (iblk1 V c 1 t) (iblk1 V c 2 t) (iblk1 V c 3 t) j = _
  rw [hW, hB, eq_ix2 j]
  refine (Block.update_rows (V c main_v15) (V c main_arg0) (V c main_arg4) b _ _ _ (rowOf (N := cfg1.N) rfl t)
    (fun i k => at_block (V c main_v15 : FVec Ideal S10000x128 .f32) _ _ k (place1 t).1 rfl rfl rfl)
    (fun i k => at_block (V c main_arg0 : FVec Ideal S10000x128 .f32) _ _ k (place1 t).2.1 rfl rfl rfl) hb (j 0) (j 1)).trans ?_
  exact (at_block (update (V c main_v15) (V c main_arg0) (V c main_arg4) b : FVec Ideal S10000x128 .f32) _ _ _ (place1 t).2.2 rfl rfl rfl).symm

/-- The second region's result array after its last point. -/
theorem final1 (b : FVec Ideal S128 .f32) (hb : IsRow (V c main_v16) b) :
    (dat1 V c).arrAt 4 cfg1.N = (update (V c main_v15) (V c main_arg0) (V c main_arg4) b : FVec Ideal S10000x128 .f32) :=
  (dat1 V c).arrAt_eq_of_cover 4 _ (fun t _ => flushed1 V c b hb t) fun (i : S10000x128.Idx) => by
    obtain ⟨t, ht⟩ := row_block (n := 2000) (N := cfg1.N) (i 0).isLt
    refine ⟨t, flush1_4 t, ?_⟩
    show i ∈ ((View.whole main_v17).slice (win1_4.rect t)).set
    rw [View.set_slice_whole, Rect.mem_set_unit]
    exact Fin.forall_fin_two.mpr (in_block (w := 128) (place1 t).2.2 ht (i 1).isLt)

/-- What point `t` of the fourth region writes back is block `t` of `update` of its operands. -/
theorem flushed3 (b : FVec Ideal S128 .f32) (hb : IsRow (V c main_v30) b) (t : Fin cfg3.N) : (dat3 V c).flushed 4 t
    = (win3_4.blk t).view.read (Elt Ideal) (update (V c main_v29) (V c main_v17) (V c main_arg7) b : FVec Ideal S10000x128 .f32) := by
  show (cfg3.win 4).cut (grid3.coords t) ((dat3 V c).after 4 t) = _
  rw [after3_4]
  unfold out3_4
  rw [View.canon_unit_zero zero2, View.ld_unit_zero zero2, View.ld_unit_zero zero2, View.ld_unit_zero zero2, View.ld_unit_zero zero2]
  funext j
  have hW : (iblk3 V c 2 t : FVec Ideal S128x128 .f32) = (V c main_arg7 : FVec Ideal S128x128 .f32) :=
    funext fun j => at_whole (V c main_arg7 : FVec Ideal S128x128 .f32) _ j (fixed3 t).1 rfl rfl
  have hB : (iblk3 V c 3 t : FVec Ideal S1x128 .f32) = (V c main_v30 : FVec Ideal S1x128 .f32) :=
    funext fun j => at_whole (V c main_v30 : FVec Ideal S1x128 .f32) _ j (fixed3 t).2 rfl rfl
  show k3_pay1 (iblk3 V c 0 t) (iblk3 V c 1 t) (iblk3 V c 2 t) (iblk3 V c 3 t) j = _
  rw [Block.update_again, hW, hB, eq_ix2 j]
  refine (Block.update_rows (V c main_v29) (V c main_v17) (V c main_arg7) b _ _ _ (rowOf (N := cfg3.N) rfl t)
    (fun i k => at_block (V c main_v29 : FVec Ideal S10000x128 .f32) _ _ k (place3 t).1 rfl rfl rfl)
    (fun i k => at_block (V c main_v17 : FVec Ideal S10000x128 .f32) _ _ k (place3 t).2.1 rfl rfl rfl) hb (j 0) (j 1)).trans ?_
  exact (at_block (update (V c main_v29) (V c main_v17) (V c main_arg7) b : FVec Ideal S10000x128 .f32) _ _ _ (place3 t).2.2 rfl rfl rfl).symm

/-- The fourth region's result array after its last point. -/
theorem final3 (b : FVec Ideal S128 .f32) (hb : IsRow (V c main_v30) b) :
    (dat3 V c).arrAt 4 cfg3.N = (update (V c main_v29) (V c main_v17) (V c main_arg7) b : FVec Ideal S10000x128 .f32) :=
  (dat3 V c).arrAt_eq_of_cover 4 _ (fun t _ => flushed3 V c b hb t) fun (i : S10000x128.Idx) => by
    obtain ⟨t, ht⟩ := row_block (n := 2000) (N := cfg3.N) (i 0).isLt
    refine ⟨t, flush3_4 t, ?_⟩
    show i ∈ ((View.whole main_v31).slice (win3_4.rect t)).set
    rw [View.set_slice_whole, Rect.mem_set_unit]
    exact Fin.forall_fin_two.mpr (in_block (w := 128) (place3 t).2.2 ht (i 1).isLt)

end Cert.KernelIdeal.Arrays

end
-- ==== Proof.Scores.lean ====
/-
  The fifth region (the edges' scores): the result array is `scoreCol` of the two ends' rows, the weights and the offset,
  the offset given to the region as a one-element matrix.
-/
module

public import proofs.«01_k».proof.Proof.Blocks
public import proofs.«01_k».proof.Proof.Geometry
public import proofs.«01_k».proof.Proof.Gen.KernelIdeal.Frame

@[expose] public section

set_option maxRecDepth 16384

noncomputable section

namespace Cert.KernelIdeal.Arrays

open Cert.KernelIdeal Cert.KernelIdeal.Gen Cert.KernelIdeal.Geometry Cert.ReferenceIdeal.Stage Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Where the region's blocks of 8000 rows lie, in order. -/
theorem place4 : ∀ t : Fin cfg4.N, (win4_0.index t 0 = t.val ∧ win4_0.index t 1 = 0) ∧ (win4_1.index t 0 = t.val ∧ win4_1.index t 1 = 0)
    ∧ (win4_4.index t 0 = t.val ∧ win4_4.index t 1 = 0) := by decide +kernel

/-- The offset and the weights are read whole at every point. -/
theorem fixed4 : ∀ t : Fin cfg4.N, (win4_2.index t 0 = 0 ∧ win4_2.index t 1 = 0) ∧ (win4_3.index t 0 = 0 ∧ win4_3.index t 1 = 0) := by
  decide +kernel

/-- `b` is the offset whose one-element matrix `b'` is. -/
def IsCell (b' : FVec Ideal S1x1 .f32) (b : FVec Ideal S1 .f32) : Prop := b' (ix2 0 0) = b (ix1 0)

/-- What point `t` writes back is block `t` of `scoreCol` of the operands. -/
theorem flushed4 (b : FVec Ideal S1 .f32) (hb : IsCell (V c main_v46) b) (t : Fin cfg4.N) : (dat4 V c).flushed 4 t
    = (win4_4.blk t).view.read (Elt Ideal) (scoreCol (V c main_v38) (V c main_v45) (V c main_arg9) b : FVec Ideal S320000x1 .f32) := by
  show (cfg4.win 4).cut (grid4.coords t) ((dat4 V c).after 4 t) = _
  rw [after4_4]
  unfold out4_4
  rw [View.canon_unit_zero zero2, View.ld_unit_zero zero2, View.ld_unit_zero zero2, View.ld_unit_zero zero2, View.ld_unit_zero zero2]
  funext j
  have hB : (iblk4 V c 2 t : FVec Ideal S1x1 .f32) = (V c main_v46 : FVec Ideal S1x1 .f32) :=
    funext fun j => at_whole (V c main_v46 : FVec Ideal S1x1 .f32) _ j (fixed4 t).1 rfl rfl
  have hW : (iblk4 V c 3 t : FVec Ideal S256x1 .f32) = (V c main_arg9 : FVec Ideal S256x1 .f32) :=
    funext fun j => at_whole (V c main_arg9 : FVec Ideal S256x1 .f32) _ j (fixed4 t).2 rfl rfl
  show k4_pay1 (iblk4 V c 0 t) (iblk4 V c 1 t) (iblk4 V c 3 t) (iblk4 V c 2 t) j = _
  rw [hB, hW, eq_ix2 j]
  refine (Block.score_rows (V c main_v38) (V c main_v45) (V c main_arg9) b _ _ _ (rowOf (N := cfg4.N) rfl t)
    (fun i k => at_block (V c main_v38 : FVec Ideal S320000x128 .f32) _ _ k (place4 t).1 rfl rfl rfl)
    (fun i k => at_block (V c main_v45 : FVec Ideal S320000x128 .f32) _ _ k (place4 t).2.1 rfl rfl rfl) hb (j 0) (j 1)).trans ?_
  exact (at_block (scoreCol (V c main_v38) (V c main_v45) (V c main_arg9) b : FVec Ideal S320000x1 .f32) _ _ _ (place4 t).2.2 rfl rfl rfl).symm

/-- The region's result array after its last point. -/
theorem final4 (b : FVec Ideal S1 .f32) (hb : IsCell (V c main_v46) b) :
    (dat4 V c).arrAt 4 cfg4.N = (scoreCol (V c main_v38) (V c main_v45) (V c main_arg9) b : FVec Ideal S320000x1 .f32) :=
  (dat4 V c).arrAt_eq_of_cover 4 _ (fun t _ => flushed4 V c b hb t) fun (i : S320000x1.Idx) => by
    obtain ⟨t, ht⟩ := row_block (n := 8000) (N := cfg4.N) (i 0).isLt
    refine ⟨t, flush4_4 t, ?_⟩
    show i ∈ ((View.whole main_v47).slice (win4_4.rect t)).set
    rw [View.set_slice_whole, Rect.mem_set_unit]
    exact Fin.forall_fin_two.mpr (in_block (w := 1) (place4 t).2.2 ht (i 1).isLt)

end Cert.KernelIdeal.Arrays

end
-- ==== Proof.Fold.lean ====
/-
  The kernel program's buffers, step by step through its host operations and regions, in the functions of `Stages.lean`:
  over the extended reals its results are the reference's functions of the arguments.
-/
module

public import proofs.«01_k».proof.Proof.Messages
public import proofs.«01_k».proof.Proof.Updates
public import proofs.«01_k».proof.Proof.Scores

@[expose] public section

set_option maxRecDepth 16384

noncomputable section

namespace Cert.KernelIdeal.Fold

open Cert.KernelIdeal Cert.KernelIdeal.Gen Cert.KernelIdeal.Arrays Cert.ReferenceIdeal.Stage
open Idealize.ShloMosaic Idealize.ShloMosaic.TcCoe Idealize.ShloMosaic.StableHlo

variable (m : (ℓ : Loc nD τ sig) → Buf (Elt Ideal) ℓ) (ρ : Dev nD → PrngReg) (c : Dev nD)

/-- Argument array `a` at launch. -/
abbrev arg (a : Ref sig .tc) : Buf (Elt Ideal) ((c : Thread nD τ).loc a) := m ((c : Thread nD τ).loc a)

/-- The node features after the first layer. -/
def nodes1 : FVec Ideal S10000x128 .f32 :=
  layer (arg m c main_arg0) (arg m c main_arg1) (arg m c main_arg2) (arg m c main_arg3) (arg m c main_arg4) (arg m c main_arg5)

/-- The node features after the second layer. -/
def nodes2 : FVec Ideal S10000x128 .f32 :=
  layer (nodes1 m c) (arg m c main_arg1) (arg m c main_arg2) (arg m c main_arg6) (arg m c main_arg7) (arg m c main_arg8)

/-- The edges' scores. -/
def scores : FVec Ideal S320000 .f32 := score (nodes2 m c) (arg m c main_arg1) (arg m c main_arg9) (arg m c main_arg10)

/-! ## The first layer -/

/-- Before the first region: the edges' sources, -/
theorem at1_source : W1 m ρ c (Proc.devRef .tc main_v1) = source (arg m c main_arg1) := by
  unfold W1
  after_results_simp
  rfl

/-- their targets, -/
theorem at1_target : W1 m ρ c (Proc.devRef .tc main_v3) = target (arg m c main_arg1) := by
  unfold W1
  after_results_simp
  rfl

/-- and the sources' rows of the node features. -/
theorem at1_rows : W1 m ρ c (Proc.devRef .tc main_v10)
    = (nodeRows (F := Ideal) (arg m c main_arg0) (source (arg m c main_arg1)) : FVec Ideal S320000x128 .f32) := by
  unfold W1
  after_results_simp
  rfl

/-- The first region's result. -/
theorem at2_part : W2 m ρ c (Proc.devRef .tc main_v11)
    = (edgePart (F := Ideal) (arg m c main_arg2) (arg m c main_arg3) : FVec Ideal S320000x128 .f32) := by
  refine (W2_arr m ρ c 2).trans ((final0 (V1 m ρ) c).trans ?_)
  rw [show V1 m ρ c main_arg2 = arg m c main_arg2 from W1_args m ρ c main_arg2 (by decide),
    show V1 m ρ c main_arg3 = arg m c main_arg3 from W1_args m ρ c main_arg3 (by decide)]

/-- Before the second region: the collected messages, -/
theorem at3_messages : W3 m ρ c (Proc.devRef .tc main_v15)
    = (collect (F := Ideal) (target (arg m c main_arg1)) (nodeRows (F := Ideal) (arg m c main_arg0) (source (arg m c main_arg1)))
        (edgePart (F := Ideal) (arg m c main_arg2) (arg m c main_arg3)) : FVec Ideal S10000x128 .f32) := by
  unfold W3
  after_results_simp
  rw [at2_part, (W2_of m ρ c main_v10 (by decide)).trans (at1_rows m ρ c), (W2_of m ρ c main_v3 (by decide)).trans (at1_target m ρ c)]
  rfl

/-- and the bias as a row. -/
theorem at3_bias : IsRow (W3 m ρ c (Proc.devRef .tc main_v16)) (arg m c main_arg5) := by
  intro l
  unfold W3
  after_results_simp
  rw [show W2 m ρ c (Proc.devRef .tc main_arg5) = arg m c main_arg5 from W2_args m ρ c main_arg5 (by decide)]
  pointwise

/-- The second region's result: the first layer. -/
theorem at4_nodes : W4 m ρ c (Proc.devRef .tc main_v17) = nodes1 m c := by
  refine (W4_arr m ρ c 4).trans ((final1 (V3 m ρ) c (arg m c main_arg5) (at3_bias m ρ c)).trans ?_)
  rw [show V3 m ρ c main_v15 = _ from at3_messages m ρ c,
    show V3 m ρ c main_arg0 = arg m c main_arg0 from W3_args m ρ c main_arg0 (by decide),
    show V3 m ρ c main_arg4 = arg m c main_arg4 from W3_args m ρ c main_arg4 (by decide)]
  rfl

/-! ## The second layer -/

/-- The sources at the second region's end are those of the start, -/
theorem at4_source : W4 m ρ c (Proc.devRef .tc main_v1) = source (arg m c main_arg1) :=
  (W4_of m ρ c main_v1 (by decide)).trans ((W3_of m ρ c main_v1 (by decide)).trans
    ((W2_of m ρ c main_v1 (by decide)).trans (at1_source m ρ c)))

/-- and so are the targets. -/
theorem at4_target : W4 m ρ c (Proc.devRef .tc main_v3) = target (arg m c main_arg1) :=
  (W4_of m ρ c main_v3 (by decide)).trans ((W3_of m ρ c main_v3 (by decide)).trans
    ((W2_of m ρ c main_v3 (by decide)).trans (at1_target m ρ c)))

/-- Before the third region: the sources' rows of the new node features. -/
theorem at5_rows : W5 m ρ c (Proc.devRef .tc main_v24)
    = (nodeRows (nodes1 m c) (source (arg m c main_arg1)) : FVec Ideal S320000x128 .f32) := by
  unfold W5
  after_results_simp
  rw [at4_nodes, at4_source]
  rfl

/-- The third region's result. -/
theorem at6_part : W6 m ρ c (Proc.devRef .tc main_v25)
    = (edgePart (F := Ideal) (arg m c main_arg2) (arg m c main_arg6) : FVec Ideal S320000x128 .f32) := by
  refine (W6_arr m ρ c 2).trans ((final2 (V5 m ρ) c).trans ?_)
  rw [show V5 m ρ c main_arg2 = arg m c main_arg2 from W5_args m ρ c main_arg2 (by decide),
    show V5 m ρ c main_arg6 = arg m c main_arg6 from W5_args m ρ c main_arg6 (by decide)]

/-- The targets at the third region's end. -/
theorem at6_target : W6 m ρ c (Proc.devRef .tc main_v3) = target (arg m c main_arg1) :=
  (W6_of m ρ c main_v3 (by decide)).trans ((W5_of m ρ c main_v3 (by decide)).trans (at4_target m ρ c))

/-- Before the fourth region: the collected messages, -/
theorem at7_messages : W7 m ρ c (Proc.devRef .tc main_v29)
    = (collect (target (arg m c main_arg1)) (nodeRows (nodes1 m c) (source (arg m c main_arg1)))
        (edgePart (F := Ideal) (arg m c main_arg2) (arg m c main_arg6)) : FVec Ideal S10000x128 .f32) := by
  unfold W7
  after_results_simp
  rw [at6_part, (W6_of m ρ c main_v24 (by decide)).trans (at5_rows m ρ c), at6_target]
  rfl

/-- the bias as a row, -/
theorem at7_bias : IsRow (W7 m ρ c (Proc.devRef .tc main_v30)) (arg m c main_arg8) := by
  intro l
  unfold W7
  after_results_simp
  rw [show W6 m ρ c (Proc.devRef .tc main_arg8) = arg m c main_arg8 from W6_args m ρ c main_arg8 (by decide)]
  pointwise

/-- and the first layer's node features. -/
theorem at7_nodes : W7 m ρ c (Proc.devRef .tc main_v17) = nodes1 m c :=
  (W7_of m ρ c main_v17 (by decide)).trans ((W6_of m ρ c main_v17 (by decide)).trans
    ((W5_of m ρ c main_v17 (by decide)).trans (at4_nodes m ρ c)))

/-- The fourth region's result: the second layer. -/
theorem at8_nodes : W8 m ρ c (Proc.devRef .tc main_v31) = nodes2 m c := by
  refine (W8_arr m ρ c 4).trans ((final3 (V7 m ρ) c (arg m c main_arg8) (at7_bias m ρ c)).trans ?_)
  rw [show V7 m ρ c main_v29 = _ from at7_messages m ρ c, show V7 m ρ c main_v17 = _ from at7_nodes m ρ c,
    show V7 m ρ c main_arg7 = arg m c main_arg7 from W7_args m ρ c main_arg7 (by decide)]
  rfl

/-! ## The scores -/

/-- The sources at the fourth region's end, -/
theorem at8_source : W8 m ρ c (Proc.devRef .tc main_v1) = source (arg m c main_arg1) :=
  (W8_of m ρ c main_v1 (by decide)).trans ((W7_of m ρ c main_v1 (by decide)).trans
    ((W6_of m ρ c main_v1 (by decide)).trans ((W5_of m ρ c main_v1 (by decide)).trans (at4_source m ρ c))))

/-- and the targets. -/
theorem at8_target : W8 m ρ c (Proc.devRef .tc main_v3) = target (arg m c main_arg1) :=
  (W8_of m ρ c main_v3 (by decide)).trans ((W7_of m ρ c main_v3 (by decide)).trans (at6_target m ρ c))

/-- Before the fifth region: the sources' rows of the node features, -/
theorem at9_sources : W9 m ρ c (Proc.devRef .tc main_v38)
    = (nodeRows (nodes2 m c) (source (arg m c main_arg1)) : FVec Ideal S320000x128 .f32) := by
  unfold W9
  after_results_simp
  rw [at8_nodes, at8_source]
  rfl

/-- the targets' rows, -/
theorem at9_targets : W9 m ρ c (Proc.devRef .tc main_v45)
    = (nodeRows (nodes2 m c) (target (arg m c main_arg1)) : FVec Ideal S320000x128 .f32) := by
  unfold W9
  after_results_simp
  rw [at8_nodes, at8_target]
  rfl

/-- and the offset as a one-element matrix. -/
theorem at9_offset : IsCell (W9 m ρ c (Proc.devRef .tc main_v46)) (arg m c main_arg10) := by
  unfold IsCell W9
  after_results_simp
  rw [show W8 m ρ c (Proc.devRef .tc main_arg10) = arg m c main_arg10 from W8_args m ρ c main_arg10 (by decide)]
  pointwise

/-- The fifth region's result: the score column. -/
theorem at10_scores : W10 m ρ c (Proc.devRef .tc main_v47)
    = (scoreCol (nodeRows (nodes2 m c) (source (arg m c main_arg1))) (nodeRows (nodes2 m c) (target (arg m c main_arg1)))
        (arg m c main_arg9) (arg m c main_arg10) : FVec Ideal S320000x1 .f32) := by
  refine (W10_arr m ρ c 4).trans ((final4 (V9 m ρ) c (arg m c main_arg10) (at9_offset m ρ c)).trans ?_)
  rw [show V9 m ρ c main_v38 = _ from at9_sources m ρ c, show V9 m ρ c main_v45 = _ from at9_targets m ρ c,
    show V9 m ρ c main_arg9 = arg m c main_arg9 from W9_args m ρ c main_arg9 (by decide)]

/-- After the last region: the scores as a vector, -/
theorem at11_scores : W11 m ρ c (Proc.devRef .tc main_v48) = scores m c := by
  unfold W11
  after_results_simp
  rw [at10_scores]
  rfl

/-- and negated. -/
theorem at11_negated : W11 m ρ c (Proc.devRef .tc main_v49) = (Host.negf (scores m c) : FVec Ideal S320000 .f32) := by
  unfold W11
  after_results_simp
  rw [at10_scores]
  rfl

/-- The order of the edges. -/
theorem at12_order : W12 m ρ c (Proc.devRef .tc main_v50) = order (scores m c) := by
  have h := at11_negated m ρ c
  change StableHlo.after hostOps5_1 (W11 m ρ c) _ = _
  generalize W11 m ρ c = W at h ⊢
  after_results_simp
  rw [show (TRef.of main_v49 hostOps5_1._proof_4 hostOps5_1._proof_5 hostOps5_1._proof_6).ofBuf (W (Proc.devRef .tc main_v49)) = _ from h]
  rfl

/-- The scores once the order is known. -/
theorem at12_scores : W12 m ρ c (Proc.devRef .tc main_v48) = scores m c :=
  (W12_of m ρ c main_v48 (by decide)).trans (at11_scores m ρ c)

/-! ## The results -/

/-- Result 1: the node features. -/
theorem result1 : W13 m ρ c (Proc.devRef .tc main_v31) = nodes2 m c :=
  (W13_of m ρ c main_v31 (by decide)).trans ((W12_of m ρ c main_v31 (by decide)).trans ((W11_of m ρ c main_v31 (by decide)).trans
    ((W10_of m ρ c main_v31 (by decide)).trans ((W9_of m ρ c main_v31 (by decide)).trans (at8_nodes m ρ c)))))

/-- Result 2: the ends of the better half of the edges. -/
theorem result2 : W13 m ρ c (Proc.devRef .tc main_v59) = pickEnds (arg m c main_arg1) (front (order (scores m c))) := by
  have ho := at12_order m ρ c
  have ha : W12 m ρ c (Proc.devRef .tc main_arg1) = arg m c main_arg1 := W12_args m ρ c main_arg1 (by decide)
  change StableHlo.after hostOps5_2 (W12 m ρ c) _ = _
  generalize W12 m ρ c = W at ho ha ⊢
  after_results_simp
  rw [ho, ha]
  rfl

/-- Result 3: the features of the better half. -/
theorem result3 : W13 m ρ c (Proc.devRef .tc main_v88)
    = (pickFeatures (F := Ideal) (arg m c main_arg2) (front (order (scores m c))) : FVec Ideal S160000x16 .f32) := by
  have ho := at12_order m ρ c
  have ha : W12 m ρ c (Proc.devRef .tc main_arg2) = arg m c main_arg2 := W12_args m ρ c main_arg2 (by decide)
  change StableHlo.after hostOps5_2 (W12 m ρ c) _ = _
  generalize W12 m ρ c = W at ho ha ⊢
  after_results_simp
  rw [ho, ha]
  rfl

/-- Result 4: the scores of the better half. -/
theorem result4 : W13 m ρ c (Proc.devRef .tc main_v73)
    = (pickScores (scores m c) (front (order (scores m c))) : FVec Ideal S160000 .f32) := by
  have ho := at12_order m ρ c
  have hs := at12_scores m ρ c
  change StableHlo.after hostOps5_2 (W12 m ρ c) _ = _
  generalize W12 m ρ c = W at ho hs ⊢
  after_results_simp
  rw [ho, hs]
  rfl

/-- Result 5: the ends of the other half. -/
theorem result5 : W13 m ρ c (Proc.devRef .tc main_v66) = pickEnds (arg m c main_arg1) (back (order (scores m c))) := by
  have ho := at12_order m ρ c
  have ha : W12 m ρ c (Proc.devRef .tc main_arg1) = arg m c main_arg1 := W12_args m ρ c main_arg1 (by decide)
  change StableHlo.after hostOps5_2 (W12 m ρ c) _ = _
  generalize W12 m ρ c = W at ho ha ⊢
  after_results_simp
  rw [ho, ha]
  rfl

/-- Result 6: the features of the other half. -/
theorem result6 : W13 m ρ c (Proc.devRef .tc main_v95)
    = (pickFeatures (F := Ideal) (arg m c main_arg2) (back (order (scores m c))) : FVec Ideal S160000x16 .f32) := by
  have ho := at12_order m ρ c
  have ha : W12 m ρ c (Proc.devRef .tc main_arg2) = arg m c main_arg2 := W12_args m ρ c main_arg2 (by decide)
  change StableHlo.after hostOps5_2 (W12 m ρ c) _ = _
  generalize W12 m ρ c = W at ho ha ⊢
  after_results_simp
  rw [ho, ha]
  rfl

/-- Result 7: the negated scores of the other half. -/
theorem result7 : W13 m ρ c (Proc.devRef .tc main_v81)
    = (Host.negf (pickScores (scores m c) (back (order (scores m c)))) : FVec Ideal S160000 .f32) := by
  have ho := at12_order m ρ c
  have hs := at12_scores m ρ c
  change StableHlo.after hostOps5_2 (W12 m ρ c) _ = _
  generalize W12 m ρ c = W at ho hs ⊢
  after_results_simp
  rw [ho, hs]
  rfl

/-- Result 8: the scores. -/
theorem result8 : W13 m ρ c (Proc.devRef .tc main_v48) = scores m c :=
  (W13_of m ρ c main_v48 (by decide)).trans (at12_scores m ρ c)

end Cert.KernelIdeal.Fold

end
-- ==== Proof.Equation.lean ====
/-
  The equation: from launches with the same arguments the kernel's results and the reference's are the same arrays.
-/
module

public import proofs.«01_k».proof.Proof.RefRun
public import proofs.«01_k».proof.Proof.KernelRun
public import proofs.«01_k».proof.Proof.Fold

@[expose] public section

noncomputable section

namespace Cert.Equation

open Idealize.ShloMosaic Idealize.SL.Sem
open Cert.ReferenceIdeal Cert.KernelIdeal

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (ρ : Dev Cert.KernelIdeal.nD → PrngReg) (c : Dev Cert.KernelIdeal.nD)

/-- The two launches hold the same eleven arguments on device `c`. -/
def Agree : Prop :=
  Named.arg m' c Cert.ReferenceIdeal.main_arg0 = Fold.arg m c Cert.KernelIdeal.main_arg0
    ∧ Named.arg m' c Cert.ReferenceIdeal.main_arg1 = Fold.arg m c Cert.KernelIdeal.main_arg1
    ∧ Named.arg m' c Cert.ReferenceIdeal.main_arg2 = Fold.arg m c Cert.KernelIdeal.main_arg2
    ∧ Named.arg m' c Cert.ReferenceIdeal.main_arg3 = Fold.arg m c Cert.KernelIdeal.main_arg3
    ∧ Named.arg m' c Cert.ReferenceIdeal.main_arg4 = Fold.arg m c Cert.KernelIdeal.main_arg4
    ∧ Named.arg m' c Cert.ReferenceIdeal.main_arg5 = Fold.arg m c Cert.KernelIdeal.main_arg5
    ∧ Named.arg m' c Cert.ReferenceIdeal.main_arg6 = Fold.arg m c Cert.KernelIdeal.main_arg6
    ∧ Named.arg m' c Cert.ReferenceIdeal.main_arg7 = Fold.arg m c Cert.KernelIdeal.main_arg7
    ∧ Named.arg m' c Cert.ReferenceIdeal.main_arg8 = Fold.arg m c Cert.KernelIdeal.main_arg8
    ∧ Named.arg m' c Cert.ReferenceIdeal.main_arg9 = Fold.arg m c Cert.KernelIdeal.main_arg9
    ∧ Named.arg m' c Cert.ReferenceIdeal.main_arg10 = Fold.arg m c Cert.KernelIdeal.main_arg10

variable {m m' c}

/-- Then the reference's node features after its first layer are the kernel's, -/
theorem nodes1_eq (h : Agree m m' c) : Named.nodes1 m' c = Fold.nodes1 m c := by
  obtain ⟨h0, h1, h2, h3, h4, h5, -⟩ := h
  unfold Named.nodes1 Fold.nodes1
  rw [h0, h1, h2, h3, h4, h5]

/-- and after its second, -/
theorem nodes2_eq (h : Agree m m' c) : Named.nodes2 m' c = Fold.nodes2 m c := by
  have h' := nodes1_eq h
  obtain ⟨-, h1, h2, -, -, -, h6, h7, h8, -⟩ := h
  unfold Named.nodes2 Fold.nodes2
  rw [h', h1, h2, h6, h7, h8]

/-- and so are the scores. -/
theorem scores_eq (h : Agree m m' c) : Named.scores m' c = Fold.scores m c := by
  have h' := nodes2_eq h
  obtain ⟨-, h1, -, -, -, -, -, -, -, h9, h10⟩ := h
  unfold Named.scores Fold.scores
  rw [h', h1, h9, h10]

end Cert.Equation

end
-- ==== Proof.lean ====
/-
  The certificate's claims: the programs run and leave their arguments and counters as they should, and over the extended
  reals the kernel's eight results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

set_option maxRecDepth 16384

noncomputable section

namespace Cert.Proof

open Idealize.ShloMosaic Idealize.SL.Sem
open Cert.ReferenceIdeal.Stage Cert.KernelIdeal

/-- The reference runs to the end, keeps its arguments and leaves every counter at zero. -/
theorem reference_frame : Cert.quiescent_ReferenceIdeal := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Value.run m ρ)

/-- Over the extended reals the kernel and the reference, from the same arguments, end with the same eight results. -/
theorem algebraic : Cert.algebraic_KernelIdeal_ReferenceIdeal := by
  intro m ρ m' ρ' _ agree
  refine ⟨fun c => Fold.nodes2 m c,
    fun c => pickEnds (Fold.arg m c main_arg1) (front (order (Fold.scores m c))),
    fun c => (pickFeatures (F := Ideal) (Fold.arg m c main_arg2) (front (order (Fold.scores m c))) : FVec Ideal S160000x16 .f32),
    fun c => (pickScores (Fold.scores m c) (front (order (Fold.scores m c))) : FVec Ideal S160000 .f32),
    fun c => pickEnds (Fold.arg m c main_arg1) (back (order (Fold.scores m c))),
    fun c => (pickFeatures (F := Ideal) (Fold.arg m c main_arg2) (back (order (Fold.scores m c))) : FVec Ideal S160000x16 .f32),
    fun c => (Host.negf (pickScores (Fold.scores m c) (back (order (Fold.scores m c)))) : FVec Ideal S160000 .f32),
    fun c => Fold.scores m c, ?_, ?_⟩
  · exact (θ_run _ _ _).mono (fun _ h c => ⟨
      (h c _ (Gen.mem_uc main_v31 (by decide))).trans (Fold.result1 m ρ c),
      (h c _ (Gen.mem_uc main_v59 (by decide))).trans (Fold.result2 m ρ c),
      (h c _ (Gen.mem_uc main_v88 (by decide))).trans (Fold.result3 m ρ c),
      (h c _ (Gen.mem_uc main_v73 (by decide))).trans (Fold.result4 m ρ c),
      (h c _ (Gen.mem_uc main_v66 (by decide))).trans (Fold.result5 m ρ c),
      (h c _ (Gen.mem_uc main_v95 (by decide))).trans (Fold.result6 m ρ c),
      (h c _ (Gen.mem_uc main_v81 (by decide))).trans (Fold.result7 m ρ c),
      (h c _ (Gen.mem_uc main_v48 (by decide))).trans (Fold.result8 m ρ c),
      (h c _ (Gen.mem_uc main_arg0 (by decide))).trans (Gen.W13_main_arg0 m ρ c),
      (h c _ (Gen.mem_uc main_arg1 (by decide))).trans (Gen.W13_main_arg1 m ρ c),
      (h c _ (Gen.mem_uc main_arg2 (by decide))).trans (Gen.W13_main_arg2 m ρ c),
      (h c _ (Gen.mem_uc main_arg3 (by decide))).trans (Gen.W13_main_arg3 m ρ c),
      (h c _ (Gen.mem_uc main_arg4 (by decide))).trans (Gen.W13_main_arg4 m ρ c),
      (h c _ (Gen.mem_uc main_arg5 (by decide))).trans (Gen.W13_main_arg5 m ρ c),
      (h c _ (Gen.mem_uc main_arg6 (by decide))).trans (Gen.W13_main_arg6 m ρ c),
      (h c _ (Gen.mem_uc main_arg7 (by decide))).trans (Gen.W13_main_arg7 m ρ c),
      (h c _ (Gen.mem_uc main_arg8 (by decide))).trans (Gen.W13_main_arg8 m ρ c),
      (h c _ (Gen.mem_uc main_arg9 (by decide))).trans (Gen.W13_main_arg9 m ρ c),
      (h c _ (Gen.mem_uc main_arg10 (by decide))).trans (Gen.W13_main_arg10 m ρ c)⟩)
      (Whole.run m ρ)
  · refine (θ_run _ _ _).mono (fun _ h c => ?_) (Cert.ReferenceIdeal.Value.run m' ρ')
    have a : Equation.Agree m m' c := agree c
    have hs := Equation.scores_eq a
    have h1 := a.2.1
    have h2 := a.2.2.1
    obtain ⟨r1, r2, r3, r4, r5, r6, r7, r8, rest⟩ := h c
    refine ⟨r1.trans ((Cert.ReferenceIdeal.Named.out0_eq m' c).trans (Equation.nodes2_eq a)), r2.trans ((Cert.ReferenceIdeal.Named.out1_eq m' c).trans ?_),
      r3.trans ((Cert.ReferenceIdeal.Named.out2_eq m' c).trans ?_), r4.trans ((Cert.ReferenceIdeal.Named.out3_eq m' c).trans ?_), r5.trans ((Cert.ReferenceIdeal.Named.out4_eq m' c).trans ?_),
      r6.trans ((Cert.ReferenceIdeal.Named.out5_eq m' c).trans ?_), r7.trans ((Cert.ReferenceIdeal.Named.out6_eq m' c).trans ?_), r8.trans ((Cert.ReferenceIdeal.Named.out7_eq m' c).trans hs), rest⟩
    · rw [h1, hs]
    · rw [h2, hs]
    · rw [hs]
    · rw [h1, hs]
    · rw [h2, hs]
    · rw [hs]

/-- The certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
